-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "third" .f32 0x3EAAAAAB#32 ((3⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4x4 : Shape := ⟨3, ![1, 4, 4]⟩
abbrev S2x12 : Shape := ⟨2, ![2, 12]⟩
abbrev S4x4 : Shape := ⟨2, ![4, 4]⟩
abbrev S4 : Shape := ⟨1, ![4]⟩
abbrev S16 : Shape := ⟨1, ![16]⟩
abbrev S_ : Shape := ⟨0, ![]⟩
abbrev S1 : Shape := ⟨1, ![1]⟩

abbrev nBuf : Table → Nat
  | .hbm => 8
  | .local .scScalar .smem => 4
  | _ => 0

abbrev bufTy : (tb : Table) → Fin (nBuf tb) → BufTy
  | .hbm, ⟨0, _⟩ => ⟨S1x4x4, .f32⟩
  | .hbm, ⟨1, _⟩ => ⟨S2x12, .i32⟩
  | .hbm, ⟨2, _⟩ => ⟨S4x4, .f32⟩
  | .hbm, ⟨3, _⟩ => ⟨S4, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1x4x4, .f32⟩
  | .local .scScalar .smem, ⟨0, _⟩ => ⟨S16, .f32⟩
  | .local .scScalar .smem, ⟨1, _⟩ => ⟨S16, .f32⟩
  | .local .scScalar .smem, ⟨2, _⟩ => ⟨S4, .f32⟩
  | .local .scScalar .smem, ⟨3, _⟩ => ⟨S16, .f32⟩
  | _, _ => ⟨S1x4x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scs : Ref sig .scScalar := ⟨.hbm, 4, rfl⟩
abbrev main_v1_scs : Ref sig .scScalar := ⟨.hbm, 5, rfl⟩
abbrev main_arg3_scs : Ref sig .scScalar := ⟨.hbm, 3, rfl⟩
abbrev main_v2_scs : Ref sig .scScalar := ⟨.hbm, 6, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== KernelIdeal.lean ====
variable {F : FTy → Type} [FloatOps F] [Named F]
def κ : String → Option EReal := fun
  | "third" => some ((3⁻¹ : ℝ) : EReal)
  | _ => none
-- ==== ReferenceIdeal.lean ====
abbrev S1x4x4 : Shape := ⟨3, ![1, 4, 4]⟩
abbrev S2x12 : Shape := ⟨2, ![2, 12]⟩
abbrev S4x4 : Shape := ⟨2, ![4, 4]⟩
abbrev S4 : Shape := ⟨1, ![4]⟩
abbrev S12 : Shape := ⟨1, ![12]⟩
abbrev S_ : Shape := ⟨0, ![]⟩
abbrev S1x4 : Shape := ⟨2, ![1, 4]⟩
abbrev S1x1x4 : Shape := ⟨3, ![1, 1, 4]⟩
abbrev S12x1 : Shape := ⟨2, ![12, 1]⟩
abbrev S1 : Shape := ⟨1, ![1]⟩
abbrev S1x1 : Shape := ⟨2, ![1, 1]⟩
abbrev S12x4 : Shape := ⟨2, ![12, 4]⟩

abbrev nBuf : Space → Nat
  | .hbm => 55
  | .vmem => 0
  | .smem => 0
  | _ => 0

abbrev bufTy : (tb : Table) → Fin (tcTables nBuf tb) → BufTy
  | .hbm, ⟨0, _⟩ => ⟨S1x4x4, .f32⟩
  | .hbm, ⟨1, _⟩ => ⟨S2x12, .i32⟩
  | .hbm, ⟨2, _⟩ => ⟨S4x4, .f32⟩
  | .hbm, ⟨3, _⟩ => ⟨S4, .f32⟩
  | .hbm, ⟨4, _⟩ => ⟨S1x4x4, .f32⟩
  | .hbm, ⟨5, _⟩ => ⟨S12, .i32⟩
  | .hbm, ⟨6, _⟩ => ⟨S12, .i32⟩
  | .hbm, ⟨7, _⟩ => ⟨S_, .f32⟩
  | .hbm, ⟨8, _⟩ => ⟨S1x4, .f32⟩
  | .hbm, ⟨9, _⟩ => ⟨S4x4, .f32⟩
  | .hbm, ⟨10, _⟩ => ⟨S1x4x4, .f32⟩
  | .hbm, ⟨11, _⟩ => ⟨S1x1x4, .f32⟩
  | .hbm, ⟨12, _⟩ => ⟨S1x4x4, .f32⟩
  | .hbm, ⟨13, _⟩ => ⟨S1x4x4, .f32⟩
  | .hbm, ⟨14, _⟩ => ⟨S1x4x4, .f32⟩
  | .hbm, ⟨15, _⟩ => ⟨S4x4, .f32⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S12, .i32⟩
  | .hbm, ⟨21, _⟩ => ⟨S12, .i32⟩
  | .hbm, ⟨22, _⟩ => ⟨S12, .i32⟩
  | .hbm, ⟨23, _⟩ => ⟨S12x1, .i32⟩
  | .hbm, ⟨24, _⟩ => ⟨S1, .i32⟩
  | .hbm, ⟨25, _⟩ => ⟨S_, .i32⟩
  | .hbm, ⟨26, _⟩ => ⟨S12x1, .i32⟩
  | .hbm, ⟨27, _⟩ => ⟨S12x1, .i1⟩
  | .hbm, ⟨28, _⟩ => ⟨S1x1, .i32⟩
  | .hbm, ⟨29, _⟩ => ⟨S12x1, .i32⟩
  | .hbm, ⟨30, _⟩ => ⟨S12x1, .i1⟩
  | .hbm, ⟨31, _⟩ => ⟨S12x1, .i1⟩
  | .hbm, ⟨32, _⟩ => ⟨S_, .i1⟩
  | .hbm, ⟨33, _⟩ => ⟨S12, .i1⟩
  | .hbm, ⟨34, _⟩ => ⟨S12x4, .f32⟩
  | .hbm, ⟨35, _⟩ => ⟨S12x4, .i1⟩
  | .hbm, ⟨36, _⟩ => ⟨S_, .f32⟩
  | .hbm, ⟨37, _⟩ => ⟨S12x4, .f32⟩
  | .hbm, ⟨38, _⟩ => ⟨S12x4, .f32⟩
  | .hbm, ⟨39, _⟩ => ⟨S_, .f32⟩
  | .hbm, ⟨40, _⟩ => ⟨S4x4, .f32⟩
  | .hbm, ⟨41, _⟩ => ⟨S_, .i32⟩
  | .hbm, ⟨42, _⟩ => ⟨S12, .i32⟩
  | .hbm, ⟨43, _⟩ => ⟨S12, .i1⟩
  | .hbm, ⟨44, _⟩ => ⟨S_, .i32⟩
  | .hbm, ⟨45, _⟩ => ⟨S12, .i32⟩
  | .hbm, ⟨46, _⟩ => ⟨S12, .i32⟩
  | .hbm, ⟨47, _⟩ => ⟨S12, .i32⟩
  | .hbm, ⟨48, _⟩ => ⟨S12x1, .i32⟩
  | .hbm, ⟨49, _⟩ => ⟨S4x4, .f32⟩
  | .hbm, ⟨50, _⟩ => ⟨S1x4x4, .f32⟩
  | .hbm, ⟨51, _⟩ => ⟨S1x4x4, .f32⟩
  | .hbm, ⟨52, _⟩ => ⟨S1x1x4, .f32⟩
  | .hbm, ⟨53, _⟩ => ⟨S1x4x4, .f32⟩
  | .hbm, ⟨54, _⟩ => ⟨S1x4x4, .f32⟩
  | _, _ => ⟨S1x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_c_4 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩

abbrev nD : Nat := 1
abbrev τ : Topo := Topo.v7x

variable {F : FTy → Type} [FloatOps F]
-- ==== Proof.Launch.lean ====
/-
  The set-up of the sequencer call's launch, for the idealized kernel over any float: the program as the launch theorem
  sees it, the buffers, the value the kernel leaves in its output array (`G`), and what the call is handed and hands
  back. The scratch of the sequencer that runs the kernel is split into its four arrays of scalar memory and its four
  transfer counters.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gcn

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's declarations: the launch semaphores are no kernel's, and no shared
    memory is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL

/-! ## The buffers -/

/-- The kernel's four HBM arrays: the flattened features, the flattened weights, the bias, the flat output. -/
abbrev xLoc (d : Dev nD) : Loc nD τ sig := (SparseCore.T d).loc main_v0
abbrev wLoc (d : Dev nD) : Loc nD τ sig := (SparseCore.T d).loc main_v1
abbrev bLoc (d : Dev nD) : Loc nD τ sig := (SparseCore.T d).loc main_arg3
abbrev oLoc (d : Dev nD) : Loc nD τ sig := (SparseCore.T d).loc main_v2

/-- The kernel's coordinates on SparseCore `c`. -/
def coordsS (c : Fin (grid0.bound 0)) : grid0.Coords := fun | 0 => c | ⟨_ + 1, h⟩ => absurd h (Nat.not_lt.2 (Nat.le_add_left _ _))

/-- The sequencer that runs the kernel. -/
abbrev S0 (d : Dev nD) (h : 0 < grid0.bound 0) : Thread nD τ := S d ((⟨0, h⟩ : Fin (grid0.bound 0)).castLE hcore0)

/-- Its four transfer counters. -/
abbrev xCell (d : Dev nD) (c : Fin τ.nSC) : GSem nD τ sig := (S d c, .dma cc0_scratch4.sem)
abbrev wCell (d : Dev nD) (c : Fin τ.nSC) : GSem nD τ sig := (S d c, .dma cc0_scratch5.sem)
abbrev bCell (d : Dev nD) (c : Fin τ.nSC) : GSem nD τ sig := (S d c, .dma cc0_scratch6.sem)
abbrev oCell (d : Dev nD) (c : Fin τ.nSC) : GSem nD τ sig := (S d c, .dma cc0_scoped0.sem)

/-- Its four arrays of scalar memory, as device references. -/
abbrev xRef (c : Fin τ.nSC) : DevRef τ sig := (Proc.scScalar c).devRef cc0_scratch0
abbrev wRef (c : Fin τ.nSC) : DevRef τ sig := (Proc.scScalar c).devRef cc0_scratch1
abbrev bRef (c : Fin τ.nSC) : DevRef τ sig := (Proc.scScalar c).devRef cc0_scratch2
abbrev oRef (c : Fin τ.nSC) : DevRef τ sig := (Proc.scScalar c).devRef cc0_scratch3

/-- The counters of a sequencer: the kernel's four, and the rest. -/
theorem ownSems0_S (d : Dev nD) (c : Fin τ.nSC) :
    (ownSems0 (S d c) : sProp 𝕄) = iprop(semVal (xCell d c) 0 ∗ semVal (wCell d c) 0 ∗ semVal (bCell d c) 0 ∗ semVal (oCell d c) 0
      ∗ bigSep (((((ownCells (S d c)).erase (xCell d c)).erase (wCell d c)).erase (bCell d c)).erase (oCell d c)) fun g => semVal g 0) := by
  have hne : ∀ {a b : SemLoc sig}, a ≠ b → ((S d c, a) : GSem nD τ sig) ≠ (S d c, b) := fun h e => h (congrArg Prod.snd e)
  unfold SparseCore.Cfg.ownSems0
  rw [SparseCore.bigSep_erase' ((mem_ownCells (g := xCell d c)).mpr ⟨rfl, by show (SemLoc.dma cc0_scratch4.sem : SemLoc sig).isScoped .scScalar = true; decide⟩),
    SparseCore.bigSep_erase' (Finset.mem_erase.mpr ⟨hne (by decide), (mem_ownCells (g := wCell d c)).mpr ⟨rfl, by
      show (SemLoc.dma cc0_scratch5.sem : SemLoc sig).isScoped .scScalar = true; decide⟩⟩),
    SparseCore.bigSep_erase' (Finset.mem_erase.mpr ⟨hne (by decide), Finset.mem_erase.mpr ⟨hne (by decide), (mem_ownCells (g := bCell d c)).mpr ⟨rfl, by
      show (SemLoc.dma cc0_scratch6.sem : SemLoc sig).isScoped .scScalar = true; decide⟩⟩⟩),
    SparseCore.bigSep_erase' (Finset.mem_erase.mpr ⟨hne (by decide), Finset.mem_erase.mpr ⟨hne (by decide), Finset.mem_erase.mpr ⟨hne (by decide),
      (mem_ownCells (g := oCell d c)).mpr ⟨rfl, by show (SemLoc.dma cc0_scoped0.sem : SemLoc sig).isScoped .scScalar = true; decide⟩⟩⟩⟩)]

/-- The buffers of a sequencer: the kernel's four arrays of scalar memory at some contents, and the rest. -/
theorem ownBufs_S (d : Dev nD) (c : Fin τ.nSC) :
    (ownBufs (S d c) : sProp 𝕄)
      = iprop((∃ f, (S d c).loc cc0_scratch0 ↦{fullShare} f) ∗ (∃ f, (S d c).loc cc0_scratch1 ↦{fullShare} f)
          ∗ (∃ f, (S d c).loc cc0_scratch2 ↦{fullShare} f) ∗ (∃ f, (S d c).loc cc0_scratch3 ↦{fullShare} f)
          ∗ bigSep (((((ownRefs (τ := τ) (.scScalar c)).erase (xRef c)).erase (wRef c)).erase (bRef c)).erase (oRef c))
              fun b => iprop(∃ f, ((d, b) : Loc nD τ sig) ↦{fullShare} f)) := by
  have hne : ∀ {a b : Ref sig .scScalar}, a ≠ b → (Proc.scScalar c).devRef a ≠ (Proc.scScalar c).devRef b := fun h e => h (Proc.devRef_injective _ e)
  unfold SparseCore.Cfg.ownBufs
  refine (SparseCore.bigSep_erase' (SparseCore.Cfg.mem_ownRefs_of_owner (p := Proc.scScalar c) (b := xRef c) rfl)).trans ?_
  rw [SparseCore.bigSep_erase' (Finset.mem_erase.mpr ⟨hne (show cc0_scratch1 ≠ cc0_scratch0 by decide),
      SparseCore.Cfg.mem_ownRefs_of_owner (p := Proc.scScalar c) (b := wRef c) rfl⟩),
    SparseCore.bigSep_erase' (Finset.mem_erase.mpr ⟨hne (show cc0_scratch2 ≠ cc0_scratch1 by decide), Finset.mem_erase.mpr ⟨hne (show cc0_scratch2 ≠ cc0_scratch0 by decide),
      SparseCore.Cfg.mem_ownRefs_of_owner (p := Proc.scScalar c) (b := bRef c) rfl⟩⟩),
    SparseCore.bigSep_erase' (Finset.mem_erase.mpr ⟨hne (show cc0_scratch3 ≠ cc0_scratch2 by decide), Finset.mem_erase.mpr ⟨hne (show cc0_scratch3 ≠ cc0_scratch1 by decide),
      Finset.mem_erase.mpr ⟨hne (show cc0_scratch3 ≠ cc0_scratch0 by decide), SparseCore.Cfg.mem_ownRefs_of_owner (p := Proc.scScalar c) (b := oRef c) rfl⟩⟩⟩)]

/-! ## The value the kernel leaves -/

/-- The place `m` of an array of sixteen. -/
def at16 (m : ℕ) (hm : m < 16) : S16.Idx := fun a => match a with | 0 => ⟨m, hm⟩

/-- The place `m` of an array of four. -/
def at4 (m : ℕ) (hm : m < 4) : S4.Idx := fun a => match a with | 0 => ⟨m, hm⟩

/-- The place of the entry `(p, q)` of a `4×4` matrix in its flat array. -/
abbrev flat (p q : Fin 4) : S16.Idx := at16 (4 * p.val + q.val) (by omega)

/-- The place of the entry `p` in an array of four. -/
abbrev vec (p : Fin 4) : S4.Idx := at4 p.val p.isLt

section Value

variable [FloatOps F] [Named F]

/-- The dense layer at node `n`, feature `f`: the bias, then the four products added to it one after another. -/
def nf (x w : S16.Idx → F .f32) (b : S4.Idx → F .f32) (n f : Fin 4) : F .f32 :=
  Scalar.addf (Scalar.addf (Scalar.addf (Scalar.addf (b (vec f)) (Scalar.mulf (x (flat n 0)) (w (flat f 0))))
    (Scalar.mulf (x (flat n 1)) (w (flat f 1)))) (Scalar.mulf (x (flat n 2)) (w (flat f 2)))) (Scalar.mulf (x (flat n 3)) (w (flat f 3)))

/-- What is added to the layer's entry `(i, j)`, one neighbour of node `i` after another: entries of row `j`. -/
def gather (M : Fin 4 → Fin 4 → F .f32) (j : Fin 4) : Fin 4 → F .f32 → F .f32
  | 0, a => Scalar.addf (Scalar.addf (Scalar.addf a (M j 0)) (M j 2)) (M j 3)
  | 1, a => Scalar.addf (Scalar.addf a (M j 1)) (M j 3)
  | 2, a => Scalar.addf (Scalar.addf (Scalar.addf a (M j 0)) (M j 2)) (M j 3)
  | 3, a => Scalar.addf (Scalar.addf (Scalar.addf (Scalar.addf a (M j 0)) (M j 1)) (M j 2)) (M j 3)

/-- The reciprocal of node `j`'s degree, as the kernel carries it. -/
def invDeg : Fin 4 → F .f32
  | 0 => Named.named κ "third" 0x3EAAAAAB#32
  | 1 => Scalar.ofBits .f32 0x3F000000#32
  | 2 => Named.named κ "third" 0x3EAAAAAB#32
  | 3 => Scalar.ofBits .f32 0x3E800000#32

/-- The entry `(i, j)` the kernel stores. -/
def entry (x w : S16.Idx → F .f32) (b : S4.Idx → F .f32) (i j : Fin 4) : F .f32 :=
  Scalar.mulf (gather (nf x w b) j i (nf x w b i j)) (invDeg j)

/-- The kernel's output array, as a function of its three inputs. -/
def G (x w : S16.Idx → F .f32) (b : S4.Idx → F .f32) : S16.Idx → F .f32 := fun y =>
  entry x w b ⟨(y 0).val / 4, Nat.div_lt_of_lt_mul (y 0).isLt⟩ ⟨(y 0).val % 4, Nat.mod_lt _ (by decide)⟩

end Value

end Cert.Proof.Gcn

end
-- ==== Proof.Body.lean ====
/-
  The sequencer's run of the kernel.
-/
module

public import Idealize.ShloMosaic.Lib.Tactic.Stretches
public import proofs.«01_k».proof.Proof.Launch

@[expose] public section

noncomputable section

namespace Cert.Proof.Gcn

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD)

/-- One word loaded at `m` of the first array of scalar memory is the entry `m` of what it holds. -/
theorem load_x (f : S16.Idx → F .f32) (m : ℕ) (hm : m < 16) (h) (h1) :
    View.readAt (Elt F) (View.whole (cc0_scratch0 : Ref sig .scScalar)) (Rect.unit (s := S16) ![m] ![1] h).toLoadRect f (Shape.Idx.first h1)
      = f (at16 m hm) :=
  congrArg f (funext fun a => match a with | 0 => rfl)

/-- One word loaded at `m` of the second array of scalar memory is the entry `m` of what it holds. -/
theorem load_w (f : S16.Idx → F .f32) (m : ℕ) (hm : m < 16) (h) (h1) :
    View.readAt (Elt F) (View.whole (cc0_scratch1 : Ref sig .scScalar)) (Rect.unit (s := S16) ![m] ![1] h).toLoadRect f (Shape.Idx.first h1)
      = f (at16 m hm) :=
  congrArg f (funext fun a => match a with | 0 => rfl)

/-- One word loaded at `m` of the third array of scalar memory is the entry `m` of what it holds. -/
theorem load_b (f : S4.Idx → F .f32) (m : ℕ) (hm : m < 4) (h) (h1) :
    View.readAt (Elt F) (View.whole (cc0_scratch2 : Ref sig .scScalar)) (Rect.unit (s := S4) ![m] ![1] h).toLoadRect f (Shape.Idx.first h1)
      = f (at4 m hm) :=
  congrArg f (funext fun a => match a with | 0 => rfl)

/-- The value function at the place the one-word piece at `m` writes. -/
theorem G_at (x w : S16.Idx → F .f32) (b : S4.Idx → F .f32) (m : ℕ) (h) (j : (Rect.unit (s := S16) ![m] ![1] h).shape.Idx) (hm : m < 16) :
    G x w b ((Rect.unit (s := S16) ![m] ![1] h).emb j) = entry x w b ⟨m / 4, Nat.div_lt_of_lt_mul hm⟩ ⟨m % 4, Nat.mod_lt _ (by decide)⟩ := by
  have e : ((Rect.unit (s := S16) ![m] ![1] h).emb j 0).val = m := by
    have hj : (j 0).val = 0 := Nat.lt_one_iff.mp (j 0).isLt
    rw [Rect.emb_apply, hj]
    rfl
  unfold G
  exact congrArg₂ (entry x w b) (Fin.ext (congrArg (· / 4) e)) (Fin.ext (congrArg (· % 4) e))

set_option maxHeartbeats 4000000 in
theorem body₀ (h : 0 < grid0.bound 0) (O : CellTallies nD τ sig (HIx 1)) (W : Waits sig (HIx 1)) (hO : ∀ g, O g none = 0)
    (x : Buf (Elt F) (xLoc d)) (w : Buf (Elt F) (wLoc d)) (b : Buf (Elt F) (bLoc d)) (o : Buf (Elt F) (oLoc d))
    (xs ws os : S16.Idx → F .f32) (bs : S4.Idx → F .f32) :
    (iprop(levAts (K (F := F)).L (K (F := F)).lev
        ∗ ((Memref.whole main_v0_scs : Memref sig .scScalar .hbm S16 .f32).view.loc (S0 d h) ↦{fullShare} x) ∗ ((Memref.whole main_v1_scs : Memref sig .scScalar .hbm S16 .f32).view.loc (S0 d h) ↦{fullShare} w) ∗ ((Memref.whole main_arg3_scs : Memref sig .scScalar .hbm S4 .f32).view.loc (S0 d h) ↦{fullShare} b)
        ∗ ((Memref.whole main_v2_scs : Memref sig .scScalar .hbm S16 .f32).view.loc (S0 d h) ↦{fullShare} o)
        ∗ ((Memref.whole cc0_scratch0 : Memref sig .scScalar .smem S16 .f32).view.loc (S0 d h) ↦{fullShare} xs) ∗ ((Memref.whole cc0_scratch1 : Memref sig .scScalar .smem S16 .f32).view.loc (S0 d h) ↦{fullShare} ws) ∗ ((Memref.whole cc0_scratch2 : Memref sig .scScalar .smem S4 .f32).view.loc (S0 d h) ↦{fullShare} bs)
        ∗ ((Memref.whole cc0_scratch3 : Memref sig .scScalar .smem S16 .f32).view.loc (S0 d h) ↦{fullShare} os)
        ∗ semVal (S0 d h, SemLoc.dma cc0_scratch4.sem) 0 ∗ semVal (S0 d h, SemLoc.dma cc0_scratch5.sem) 0
        ∗ semVal (S0 d h, SemLoc.dma cc0_scratch6.sem) 0 ∗ semVal (S0 d h, SemLoc.dma cc0_scoped0.sem) 0
        ∗ owes (S0 d h) O W) : sProp 𝕄)
      ⊢ wp frame (wpE (defs₀ (F := F)) 𝒱₀ (S0 d h) none) Set.univ
          (cc0__sc_body (coordsS ⟨0, h⟩) (Memref.whole main_v0_scs) (Memref.isWhole_whole _) (Memref.whole main_v1_scs) (Memref.isWhole_whole _) (Memref.whole main_arg3_scs) (Memref.isWhole_whole _) (Memref.whole main_v2_scs) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scoped0)
          fun _ => iprop(((Memref.whole main_v0_scs : Memref sig .scScalar .hbm S16 .f32).view.loc (S0 d h) ↦{fullShare} x) ∗ ((Memref.whole main_v1_scs : Memref sig .scScalar .hbm S16 .f32).view.loc (S0 d h) ↦{fullShare} w) ∗ ((Memref.whole main_arg3_scs : Memref sig .scScalar .hbm S4 .f32).view.loc (S0 d h) ↦{fullShare} b)
        ∗ ((Memref.whole main_v2_scs : Memref sig .scScalar .hbm S16 .f32).view.loc (S0 d h) ↦{fullShare} (G x w b : S16.Idx → F .f32))
        ∗ (∃ f, (Memref.whole cc0_scratch0 : Memref sig .scScalar .smem S16 .f32).view.loc (S0 d h) ↦{fullShare} f) ∗ (∃ f, (Memref.whole cc0_scratch1 : Memref sig .scScalar .smem S16 .f32).view.loc (S0 d h) ↦{fullShare} f) ∗ (∃ f, (Memref.whole cc0_scratch2 : Memref sig .scScalar .smem S4 .f32).view.loc (S0 d h) ↦{fullShare} f)
        ∗ (∃ f, (Memref.whole cc0_scratch3 : Memref sig .scScalar .smem S16 .f32).view.loc (S0 d h) ↦{fullShare} f)
        ∗ semVal (S0 d h, SemLoc.dma cc0_scratch4.sem) 0 ∗ semVal (S0 d h, SemLoc.dma cc0_scratch5.sem) 0
        ∗ semVal (S0 d h, SemLoc.dma cc0_scratch6.sem) 0 ∗ semVal (S0 d h, SemLoc.dma cc0_scoped0.sem) 0
        ∗ ∃ W', ⌜∀ p ∈ W', p ∈ W ∨ p.2 = none⌝ ∗ owes (S0 d h) O W') := by
  have k0_h1 : Scalar.cmpi .ne (Scalar.extui (Scalar.cmpi .eq (BitVec.ofNat 32 (coordsS ⟨0, h⟩ 0).val) 0#32)) 0#32 = 1#1 := by decide +revert
  rw [cc0__sc_body_eq_skeleton]; unfold cc0__sc_body_skel
  iintro ⟨#Hlv, Hx, Hw, Hb, Ho, Hxs, Hws, Hbs, Hos, Hs4, Hs5, Hs6, Hs0, HO⟩
  ihave Hmw := ((K (F := F)).mayWaits_none (thr := S0 d h) hO) $$ Hlv
  (set_option sl_exec.maxSteps 11 in sl_exec)
  rw [show View.write (Elt F) (Memref.whole cc0_scratch0 : Memref sig .scScalar .smem S16 .f32).view xs (body₀.sl.dma0 d x) Finset.univ = (x : S16.Idx → F .f32) from
    (View.write_whole_univ (Val := Elt F) cc0_scratch0 xs (body₀.sl.dma0 d x)).trans (by unfold body₀.sl.dma0; rfl)]
  rw [show View.write (Elt F) (Memref.whole cc0_scratch1 : Memref sig .scScalar .smem S16 .f32).view ws (body₀.sl.dma0_1 d w) Finset.univ = (w : S16.Idx → F .f32) from
    (View.write_whole_univ (Val := Elt F) cc0_scratch1 ws (body₀.sl.dma0_1 d w)).trans (by unfold body₀.sl.dma0_1; rfl)]
  rw [show View.write (Elt F) (Memref.whole cc0_scratch2 : Memref sig .scScalar .smem S4 .f32).view bs (body₀.sl.dma0_2 d b) Finset.univ = (b : S4.Idx → F .f32) from
    (View.write_whole_univ (Val := Elt F) cc0_scratch2 bs (body₀.sl.dma0_2 d b)).trans (by unfold body₀.sl.dma0_2; rfl)]
  sl_exec
  sl_step
  have hG : ∀ p ∈ body₀.sl.Hos_16 d x w b, ∀ j : p.1.shape.Idx, p.2 j = G x w b (p.1.emb j) := by
    unfold body₀.sl.Hos_16
    intro p hp
    simp only [List.mem_cons, List.not_mem_nil, or_false] at hp
    rcases hp with rfl | rfl | rfl | rfl | rfl | rfl | rfl | rfl | rfl | rfl | rfl | rfl | rfl | rfl | rfl | rfl
    all_goals
      intro j
      obtain rfl : j = fun a => match a with | 0 => (⟨0, Nat.one_pos⟩ : Fin 1) := funext fun a => match a with | 0 => Subsingleton.elim (α := Fin 1) _ _
      sl_open_run
      sl_open_pay
      simp (disch := decide) only [load_x, load_w, load_b]
      refine Eq.trans ?_ (G_at x w b _ _ _ (by decide)).symm
      rfl
  have hcov : ∀ y, ∃ p ∈ body₀.sl.Hos_16 d x w b, y ∈ p.1.set := by
    unfold body₀.sl.Hos_16
    exact View.cover_of_tiled _ ![1] (by rfl)
  have hout : View.write (Elt F) (Memref.whole main_v2_scs : Memref sig .scScalar .hbm S16 .f32).view o (body₀.sl.dma176 d x w b os) Finset.univ = (G x w b : S16.Idx → F .f32) := by
    refine (View.write_whole_univ (Val := Elt F) main_v2_scs o _).trans ?_
    unfold body₀.sl.dma176
    funext y
    exact View.read_writes_apply_of_pieces (Val := Elt F) (Memref.whole cc0_scratch3 : Memref sig .scScalar .smem S16 .f32).view os (G x w b) _ hG y (hcov y)
  rw [hout]
  isplitl [Hx]; · iexact Hx
  isplitl [Hw]; · iexact Hw
  isplitl [Hb]; · iexact Hb
  isplitl [Ho]; · iexact Ho
  isplitl [Hxs]; · iexists _; iexact Hxs
  isplitl [Hws]; · iexists _; iexact Hws
  isplitl [Hbs]; · iexists _; iexact Hbs
  isplitl [Hos]; · iexists _; iexact Hos
  isplitl [Hs4]; · iexact Hs4
  isplitl [Hs5]; · iexact Hs5
  isplitl [Hs6]; · iexact Hs6
  isplitl [Hs0]; · iexact Hs0
  iexists _
  isplitr [HO]
  swap
  · iexact HO
  · ipureintro
    intro p hp
    simp only [Finset.mem_insert] at hp
    rcases hp with rfl | rfl | rfl | rfl | hp
    · exact .inr rfl
    · exact .inr rfl
    · exact .inr rfl
    · exact .inr rfl
    · exact .inl hp

end Cert.Proof.Gcn

end
-- ==== Proof.Run.lean ====
/-
  The run of the whole program: what the call hands the sequencer and takes back, the sequencer's task from the body's
  run, the host's reshapes around the call, and the launch.
-/
module

public import proofs.«01_k».proof.Proof.Body

@[expose] public section

noncomputable section

namespace Cert.Proof.Gcn

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host's arrays and what they hold at each point -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev x' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three reshapes of the host: the features and the weights flattened, the result given its shape. -/
abbrev opX : HloOp τ sig (Elt F) := StableHlo.reshape main_arg0 main_v0 (rfl : (.f32 : EltTy) = .f32) shapeCasts_S1x4x4_S16
abbrev opW : HloOp τ sig (Elt F) := StableHlo.reshape main_arg2 main_v1 (rfl : (.f32 : EltTy) = .f32) shapeCasts_S4x4_S16
abbrev opR : HloOp τ sig (Elt F) := StableHlo.reshape main_v2 main_v3 (rfl : (.f32 : EltTy) = .f32) shapeCasts_S16_S1x4x4

/-- The host's arrays. -/
abbrev S8 : Finset (DevRef τ sig) := {a0', a1', a2', a3', x', w', o', r'}

theorem held_S8 (d : Dev nD) (W : Valuation τ sig (Elt F)) :
    (held (T d) S8 W : sProp 𝕄) = iprop((((d, a0') : Loc nD τ sig) ↦{fullShare} W a0') ∗ (((d, a1') : Loc nD τ sig) ↦{fullShare} W a1')
      ∗ (((d, a2') : Loc nD τ sig) ↦{fullShare} W a2') ∗ (bLoc d ↦{fullShare} W a3') ∗ (xLoc d ↦{fullShare} W x') ∗ (wLoc d ↦{fullShare} W w')
      ∗ (oLoc d ↦{fullShare} W o') ∗ (((d, r') : Loc nD τ sig) ↦{fullShare} W r')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch. -/
def V0 (d : Dev nD) : Valuation τ sig (Elt F) := fun b => m (d, b)
/-- The contents at the call: the features and the weights flattened. -/
def V1 (d : Dev nD) : Valuation τ sig (Elt F) := (opW (F := F)).result ((opX (F := F)).result (V0 m d))

theorem unscoped_held (d : Dev nD) : (unscopedBufs d (fun b => m ((SparseCore.T d).loc b)) : sProp 𝕄) = held (T d) S8 (V0 m d) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton, held_S8]
  rfl

theorem hopX : (opX (F := F)).bufs ⊆ S8 := show ({a0', x'} : Finset (DevRef τ sig)) ⊆ S8 by decide
theorem hopW : (opW (F := F)).bufs ⊆ S8 := show ({a2', w'} : Finset (DevRef τ sig)) ⊆ S8 by decide
theorem hopR : (opR (F := F)).bufs ⊆ S8 := show ({o', r'} : Finset (DevRef τ sig)) ⊆ S8 by decide

variable [FloatOps F] [Named F]

/-- What the kernel leaves in the flat output, from the contents at the call. -/
def out (d : Dev nD) : Buf (Elt F) (oLoc d) := (G (V1 m d x') (V1 m d w') (V1 m d a3') : S16.Idx → F .f32)
/-- The contents after the call. -/
def V2 (d : Dev nD) : Valuation τ sig (Elt F) := Function.update (V1 m d) o' (out m d)
/-- The contents at the end. -/
def V3 (d : Dev nD) : Valuation τ sig (Elt F) := (opR (F := F)).result (V2 m d)

theorem V2_o (d : Dev nD) : V2 m d o' = out m d := Function.update_self _ _ _
theorem V2_ne (d : Dev nD) (b : DevRef τ sig) (h : b ≠ o') : V2 m d b = V1 m d b := Function.update_of_ne h _ _

/-! ## What the call hands over and takes back -/

/-- The three inputs of the call at what they hold. -/
abbrev ins (d : Dev nD) : sProp 𝕄 :=
  iprop((xLoc d ↦{fullShare} V1 m d x') ∗ (wLoc d ↦{fullShare} V1 m d w') ∗ (bLoc d ↦{fullShare} V1 m d a3'))

/-- The call's payloads: the inputs and the flat output go to the sequencer, and come back with the output computed. -/
def P : (K (F := F)).Pay (nD := nD) (Val := Elt F) (Name := ℕ) (U := UU) where
  st := fun _ d _ => iprop(ins m d ∗ ∃ f, oLoc d ↦{fullShare} f)
  dn := fun _ d _ => iprop(ins m d ∗ oLoc d ↦{fullShare} out m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's task -/

/-- The task on the sequencer: its scratch taken out of what the launch holds for it, the body's run, the scratch put
    back. -/
theorem task (d : Dev nD) (h : 0 < grid0.bound 0) (O : CellTallies nD τ sig (HIx 1)) (W : Waits sig (HIx 1)) (hO : ∀ g, O g none = 0) :
    (iprop(levAts (K (F := F)).L (K (F := F)).lev ∗ emp ∗ (ins m d ∗ ∃ f, oLoc d ↦{fullShare} f)
        ∗ scopedBufs (S0 d h) ∗ scopedSems0 (S0 d h) ∗ owes (S0 d h) O W) : sProp 𝕄)
      ⊢ wp frame (wpE (defs₀ (F := F)) 𝒱₀ (S0 d h) none) Set.univ
          (cc0__sc_body (coordsS ⟨0, h⟩) (Memref.whole main_v0_scs) (Memref.isWhole_whole _) (Memref.whole main_v1_scs) (Memref.isWhole_whole _) (Memref.whole main_arg3_scs) (Memref.isWhole_whole _) (Memref.whole main_v2_scs) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scoped0)
          fun _ => iprop((ins m d ∗ oLoc d ↦{fullShare} out m d) ∗ scopedBufs (S0 d h) ∗ scopedSems0 (S0 d h)
            ∗ ∃ W', ⌜∀ p ∈ W', p ∈ W ∨ p.2 = none ∨ p.2 = some (0 : Fin 1)⌝ ∗ owes (S0 d h) O W') := by
  iintro ⟨#Hlv, -, ⟨⟨Hx, Hw, Hb⟩, %o, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨H4, H5, H6, H7, Hrest⟩
  ihave Hsb' := (Entails.of_eq (SparseCore.Cfg.scopedBufs_S (K := K (F := F)) (Val := Elt F) facts d (((⟨0, h⟩ : Fin (grid0.bound 0))).castLE hcore0))) $$ Hsb
  icases Hsb' with ⟨Hob, Htiles⟩
  ihave Hob' := (Entails.of_eq (ownBufs_S (F := F) d (((⟨0, h⟩ : Fin (grid0.bound 0))).castLE hcore0))) $$ Hob
  icases Hob' with ⟨⟨%xs, Hxs⟩, ⟨%ws, Hws⟩, ⟨%bs, Hbs⟩, ⟨%os, Hos⟩, Hbrest⟩
  ihave HR := (body₀ d h O W hO (V1 m d x') (V1 m d w') (V1 m d a3') o xs ws os bs) $$ [Hx Hw Hb Ho Hxs Hws Hbs Hos H4 H5 H6 H7 HO]
  · isplitr; · iexact Hlv
    isplitl [Hx]; · iexact Hx
    isplitl [Hw]; · iexact Hw
    isplitl [Hb]; · iexact Hb
    isplitl [Ho]; · iexact Ho
    isplitl [Hxs]; · iexact Hxs
    isplitl [Hws]; · iexact Hws
    isplitl [Hbs]; · iexact Hbs
    isplitl [Hos]; · iexact Hos
    isplitl [H4]; · iexact H4
    isplitl [H5]; · iexact H5
    isplitl [H6]; · iexact H6
    isplitl [H7]; · iexact H7
    iexact HO
  iapply (wp_wand_r frame _ _)
  isplitl [HR]; · iexact HR
  iintro %_ ⟨Hx, Hw, Hb, Ho, Hxs, Hws, Hbs, Hos, H4, H5, H6, H7, %W', %hW', HO⟩
  isplitl [Hx Hw Hb Ho]
  · isplitl [Hx Hw Hb]
    · isplitl [Hx]; · iexact Hx
      isplitl [Hw]; · iexact Hw
      iexact Hb
    · iexact Ho
  isplitl [Hxs Hws Hbs Hos Hbrest Htiles]
  · iapply (SparseCore.Cfg.scopedBufs_S_intro (K := K (F := F)) (Val := Elt F) facts d _)
    isplitl [Hxs Hws Hbs Hos Hbrest]
    · rw [ownBufs_S]
      isplitl [Hxs]; · iexact Hxs
      isplitl [Hws]; · iexact Hws
      isplitl [Hbs]; · iexact Hbs
      isplitl [Hos]; · iexact Hos
      iexact Hbrest
    · iexact Htiles
  isplitl [H4 H5 H6 H7 Hrest Hsubs]
  · iapply (SparseCore.Cfg.scopedSems0_S_intro (Val := Elt F) d _)
    isplitl [H4 H5 H6 H7 Hrest]
    · rw [ownSems0_S]
      isplitl [H4]; · iexact H4
      isplitl [H5]; · iexact H5
      isplitl [H6]; · iexact H6
      isplitl [H7]; · iexact H7
      iexact Hrest
    · iexact Hsubs
  iexists W'; isplitr
  · ipureintro; exact fun p hp => (hW' p hp).imp_right Or.inl
  · iexact HO

/-- The body table's entry for the sequencer. -/
theorem defs₀_scalar (c : Fin τ.nSC) :
    defs₀ (F := F) (.scScalar c) 0 ()
      = SparseCore.onCore hcore0 (fun c => cc0__sc_body (coordsS c) (Memref.whole main_v0_scs) (Memref.isWhole_whole _) (Memref.whole main_v1_scs) (Memref.isWhole_whole _) (Memref.whole main_arg3_scs) (Memref.isWhole_whole _) (Memref.whole main_v2_scs) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scoped0) ⟨⟩ c := rfl

/-- What the launch theorem asks of the call: the one SparseCore the call runs on does its task. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact task m d h O W hO

/-! ## The launch's element: the handshakes' rounds, and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [hemp]; iempintro
  unfold P; dsimp only
  rw [show (bigSep Finset.univ fun _ : Thread nD τ => bigSep Finset.univ fun _ : Fin 1 => (iprop(emp) : sProp 𝕄)) = iprop(emp) from by
    rw [bigSep_congr fun _ _ => hemp _, hemp]]
  iempintro

/-! ## The host's program -/

/-- What the call takes, for the one SparseCore. -/
theorem st0_eq (d : Dev nD) : (bigSep Finset.univ fun c : Fin ((K (F := F)).nCore 0) => (P m).st 0 d c) = iprop(ins m d ∗ ∃ f, oLoc d ↦{fullShare} f) := by
  show (bigSep (Finset.univ : Finset (Fin 1)) fun _ => iprop(ins m d ∗ ∃ f, oLoc d ↦{fullShare} f)) = _
  rw [show (Finset.univ : Finset (Fin 1)) = {0} by decide, bigSep_singleton]

/-- What the call gives back. -/
theorem dn0_eq (d : Dev nD) : (bigSep Finset.univ fun c : Fin ((K (F := F)).nCore 0) => (P m).dn 0 d c) = iprop(ins m d ∗ oLoc d ↦{fullShare} out m d) := by
  show (bigSep (Finset.univ : Finset (Fin 1)) fun _ => iprop(ins m d ∗ oLoc d ↦{fullShare} out m d)) = _
  rw [show (Finset.univ : Finset (Fin 1)) = {0} by decide, bigSep_singleton]

/-- What the host's program leaves: its arrays at the contents computed. -/
abbrev FIN (d : Dev nD) : sProp 𝕄 := held (T d) S8 (V3 m d)

/-- The host's program on a device: two reshapes, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S8) hopX (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opW) (S := S8) hopW (V := (opX (F := F)).result (V0 m d))) $$ [Hb Hheld]
  · isplitl [Hb]; · iexact Hb
    iexact Hheld
  iintro ⟨Hb, Hheld⟩
  rw [wp_ret]; imodintro
  ihave Hh := (Entails.of_eq (show (held (T d) S8 ((opW (F := F)).result ((opX (F := F)).result (V0 m d))) : sProp 𝕄) = _ from held_S8 (F := F) d (V1 m d))) $$ Hheld
  icases Hh with ⟨H0, H1, H2, H3, Hx, Hw, Ho, Hr⟩
  iapply ((K (F := F)).wp_run (D (F := F)) 𝒱 (EH := EH) (P := P m) κ d 0) $$ [Hst H0 H1 H2 H3 Hx Hw Ho Hb Hr Hts]
  isplitr; · iexact Hctx
  isplitl [Hst]; · iexact Hst
  isplitl [Hx Hw H3 Ho]
  · rw [st0_eq]
    isplitl [Hx Hw H3]
    · isplitl [Hx]; · iexact Hx
      isplitl [Hw]; · iexact Hw
      iexact H3
    · iexists _; iexact Ho
  iintro ⟨Hst, Hdn⟩
  ihave Hdn' := (Entails.of_eq (dn0_eq m d)) $$ Hdn
  icases Hdn' with ⟨⟨Hx, Hw, H3⟩, Ho⟩
  iapply (wp_hlo_within 𝒱 (SparseCore.T d) none Set.univ (op := opR) (S := S8) hopR (V := V2 m d)) $$ [Hb H0 H1 H2 H3 Hx Hw Ho Hr]
  · isplitl [Hb]; · iexact Hb
    rw [held_S8, V2_o, V2_ne m d a0' (by decide), V2_ne m d a1' (by decide), V2_ne m d a2' (by decide), V2_ne m d a3' (by decide), V2_ne m d x' (by decide),
      V2_ne m d w' (by decide), V2_ne m d r' (by decide)]
    isplitl [H0]; · iexact H0
    isplitl [H1]; · iexact H1
    isplitl [H2]; · iexact H2
    isplitl [H3]; · iexact H3
    isplitl [Hx]; · iexact Hx
    isplitl [Hw]; · iexact Hw
    isplitl [Ho]; · iexact Ho
    iexact Hr
  iintro ⟨Hb, Hheld⟩
  rw [wp_ret]; imodintro; imodintro
  isplitl [Hst]; · iexact Hst
  isplitl [Hheld]; · iexact Hheld
  isplitl [Hb] <;> iassumption

/-! ## The contents at the end -/

/-- The host's arrays hold what was computed for them. -/
def fq (d : Dev nD) (s' : Phys nD τ sig (Elt F)) : Prop := ∀ b ∈ S8, s'.mem.mem (d, b) = V3 m d b

theorem hfin (d : Dev nD) (s' : Phys nD τ sig (Elt F)) : iprop(FIN m d ∗ SI s') ⊢ (⌜fq m d s'⌝ : sProp 𝕄) := by
  have one : ∀ b ∈ S8, iprop(FIN m d ∗ SI s') ⊢ (⌜s'.mem.mem (d, b) = V3 m d b⌝ : sProp 𝕄) := by
    intro b hb
    unfold FIN held
    rw [SparseCore.bigSep_erase' hb]
    iintro ⟨⟨Hb, -⟩, HSI⟩
    ihave H := (SI_pointsTo_agree (st := s') (ℓ := (d, b)) (I := Finset.univ) (q := fullShare) (f := V3 m d b)) $$ [HSI Hb]
    · isplitl [HSI] <;> iassumption
    icases H with %h
    ipureintro; exact funext fun i => h i (Finset.mem_univ i)
  exact (forall_intro fun b => (forall_intro fun hb => one b hb).trans pure_forall.2).trans pure_forall.2

/-- The arguments are never written. -/
theorem V3_arg (d : Dev nD) (b : DevRef τ sig) (hx : b ≠ x') (hw : b ≠ w') (ho : b ≠ o') (hr : b ≠ r') : V3 m d b = m (d, b) := by
  unfold V3
  rw [(opR (F := F)).result_of_not_mem (V2 m d) (b := b) (show b ∉ ({r'} : Finset (DevRef τ sig)) by simpa using hr), V2_ne m d b ho]
  unfold V1
  rw [(opW (F := F)).result_of_not_mem _ (b := b) (show b ∉ ({w'} : Finset (DevRef τ sig)) by simpa using hw),
    (opX (F := F)).result_of_not_mem _ (b := b) (show b ∉ ({x'} : Finset (DevRef τ sig)) by simpa using hx)]
  rfl

/-- The kernel program's result, from its arguments: the flat output of the flattened inputs, given the result's shape. -/
def result (a0 : S1x4x4.Idx → F .f32) (a2 : S4x4.Idx → F .f32) (a3 : S4.Idx → F .f32) : S1x4x4.Idx → F .f32 :=
  shapeCast S1x4x4 (G (shapeCast S16 a0 shapeCasts_S1x4x4_S16) (shapeCast S16 a2 shapeCasts_S4x4_S16) a3) shapeCasts_S16_S1x4x4

theorem V1_x (d : Dev nD) : (V1 m d x' : S16.Idx → F .f32) = shapeCast S16 (m (d, a0') : S1x4x4.Idx → F .f32) shapeCasts_S1x4x4_S16 := by
  unfold V1
  rw [(opW (F := F)).result_of_not_mem _ (b := x') (show x' ∉ ({w'} : Finset (DevRef τ sig)) by decide), StableHlo.reshape_result']
  rfl

theorem V1_w (d : Dev nD) : (V1 m d w' : S16.Idx → F .f32) = shapeCast S16 (m (d, a2') : S4x4.Idx → F .f32) shapeCasts_S4x4_S16 := by
  unfold V1
  rw [StableHlo.reshape_result', (opX (F := F)).result_of_not_mem _ (b := a2') (show a2' ∉ ({x'} : Finset (DevRef τ sig)) by decide)]
  rfl

theorem V1_b (d : Dev nD) : V1 m d a3' = m (d, a3') := by
  unfold V1
  rw [(opW (F := F)).result_of_not_mem _ (b := a3') (show a3' ∉ ({w'} : Finset (DevRef τ sig)) by decide),
    (opX (F := F)).result_of_not_mem _ (b := a3') (show a3' ∉ ({x'} : Finset (DevRef τ sig)) by decide)]
  rfl

/-- The result's array holds `result` of the arguments. -/
theorem V3_r (d : Dev nD) : (V3 m d r' : S1x4x4.Idx → F .f32) = result (m (d, a0')) (m (d, a2')) (m (d, a3')) := by
  unfold V3
  rw [StableHlo.reshape_result', V2_o]
  unfold out
  rw [V1_x, V1_w, V1_b]
  rfl

/-! ## The program's run -/

/-- On every device the result is `result` of the arguments and the arguments are unchanged; and every semaphore reads
    zero. -/
def QC : PUnit × MemSt nD τ sig (Elt F) → Prop := fun r =>
  (∀ c : Dev nD, (r.2.mem (c, r') : S1x4x4.Idx → F .f32) = result (m (c, a0')) (m (c, a2')) (m (c, a3'))
    ∧ r.2.mem (c, a0') = m (c, a0') ∧ r.2.mem (c, a1') = m (c, a1') ∧ r.2.mem (c, a2') = m (c, a2') ∧ r.2.mem (c, a3') = m (c, a3'))
  ∧ r.2.sem = fun _ => 0

/-- The kernel program runs, at any float that names its constants, and ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m)
    (fun _ h hz => ⟨fun c => ⟨(h c r' (by decide)).trans (V3_r m c),
      (h c a0' (by decide)).trans (V3_arg m c a0' (by decide) (by decide) (by decide) (by decide)),
      (h c a1' (by decide)).trans (V3_arg m c a1' (by decide) (by decide) (by decide) (by decide)),
      (h c a2' (by decide)).trans (V3_arg m c a2' (by decide) (by decide) (by decide) (by decide)),
      (h c a3' (by decide)).trans (V3_arg m c a3' (by decide) (by decide) (by decide) (by decide))⟩, hz⟩)

end Cert.Proof.Gcn

end
-- ==== Proof.Frames.lean ====
/-
  The two frames of the kernel, both from the one run.
-/
module

public import proofs.«01_k».proof.Proof.Run
public import proofs.«01_k».proof.Proof.Gen.Kernel

@[expose] public section

noncomputable section

namespace Cert.Proof.Gcn

open Idealize.ShloMosaic Idealize.SL.Sem

/-- The idealized kernel's frame: the run, its result dropped. -/
theorem frame_kernelIdeal : Cert.quiescent_KernelIdeal := fun m ρ _ =>
  (θ_run Cert.KernelIdeal.defs _ _).mono (fun _ h => ⟨fun c => (h.1 c).2, h.2⟩) (run_main (F := Ideal) m ρ)

/-- At the bit patterns a named constant is the word the program states. -/
local instance namedBits : Named Bits where
  named _ _ {φ} b := Scalar.ofBits (F := Bits) φ b

/-- The printed kernel's frame: the same run at the bit patterns, where a named constant is its own word. -/
theorem frame_kernel : Cert.quiescent_Kernel := fun m ρ _ =>
  (θ_run Cert.Kernel.defs _ _).mono (fun _ h => ⟨fun c => (h.1 c).2, h.2⟩) (run_main (F := Bits) m ρ)

end Cert.Proof.Gcn

end
-- ==== Proof.Reference.lean ====
/-
  The reference's run, and its result read at one entry: the features of the node's neighbours added up, the node's own
  added to them, the whole divided by the node's degree.
-/
module

public import proofs.«01_k».proof.Proof.Gen.ReferenceIdeal.Run
public import proofs.«01_k».proof.Defs
public import Idealize.ShloMosaic.Lib.Quiescent
public import Idealize.ShloMosaic.Lib.ValueIdxCore
public import Idealize.ShloMosaic.PureOps.Ideal.Laws

@[expose] public section

noncomputable section

namespace Cert.Proof.Gcn.Ref

open Cert.ReferenceIdeal Cert.ReferenceIdeal.Gen

open Idealize.ShloMosaic Idealize.ShloMosaic.ValueIdx Idealize.ShloMosaic.TcCoe Idealize.SL.Sem

/-- The place of the entry `(p, q)` of the one batch's `4×4` matrix. -/
def at3 (p q : Fin 4) : S1x4x4.Idx := fun a => match a with | 0 => ⟨0, by decide⟩ | 1 => p | 2 => q

/-- The place of the entry `(p, q)` of a `4×4` matrix. -/
def at2 (p q : Fin 4) : S4x4.Idx := fun a => match a with | 0 => p | 1 => q

/-- The place of the entry `p` of an array of four. -/
def at1 (p : Fin 4) : S4.Idx := fun a => match a with | 0 => p

/-- The place of the feature `q` in the row of the edge `e`. -/
def atE (e : Fin 12) (q : Fin 4) : S12x4.Idx := fun a => match a with | 0 => e | 1 => q

/-- A table of twelve nodes as the column of indices a gather or a scatter reads, a negative one counted from the end. -/
abbrev column (l : Fin 12 → BitVec 32) : IVec S12x1 32 :=
  broadcastInDim S12x1 ![0] bcast_S12_S12x1_0 (select (cmpi .slt ((fun i => l (S12.rowMajor i))) (broadcastInDim S12 ![] bcast_S_S12 (constantI S_ 32 0#32))) (addi ((fun i => l (S12.rowMajor i))) (broadcastInDim S12 ![] bcast_S_S12 (constantI S_ 32 4#32))) ((fun i => l (S12.rowMajor i))))

/-- Whether each gathered index lies inside the table. -/
abbrev inside : IVec S12x4 1 :=
  broadcastInDim S12x4 ![0] bcast_S12_S12x4_0 (Host.reduce IntOp.andi (andi (cmpi .sge (column lit2) (broadcastInDim S12x1 ![] bcast_S_S12x1 (constantI S_ 32 0#32))) (cmpi .sle (column lit2) (broadcastInDim S12x1 ![0, 1] bcast_S1x1_S12x1_0_1 (broadcastInDim S1x1 ![1] bcast_S1_S1x1_1 (constantI S1 32 3#32))))) (constantI S_ 1 1#1) reducesTo_S12x1_S12_d1 h_S_)

section Terms

variable {F : FTy → Type} [FloatOps F] (x : S1x4x4.Idx → F .f32) (w : S4x4.Idx → F .f32) (b : S4.Idx → F .f32)

/-- The dense layer: the nodes times the transposed weights, the bias added. -/
abbrev nodes : S1x4x4.Idx → F .f32 :=
  addf (Host.dotGeneral dot_S1x4x4_S4x4_S1x4x4_2_0_01_1_n_n none x (transpose S4x4 [1, 0] w transposes_S4x4_S4x4_1_0)) (broadcastInDim S1x4x4 ![0, 1, 2] bcast_S1x1x4_S1x4x4_0_1_2 (broadcastInDim S1x1x4 ![2] bcast_S4_S1x1x4_2 b))

/-- The row of the transposed layer that each edge picks. -/
abbrev picked : S12x4.Idx → F .f32 :=
  select inside (Host.gather gather_S4x4_S12x1_S12x4_1_0_n_n_0_1_14 (shapeCast _ (transpose S1x4x4 [0, 2, 1] (nodes x w b) transposes_S1x4x4_S1x4x4_0_2_1) shapeCasts_S1x4x4_S4x4) (column lit2)) (broadcastInDim S12x4 ![] bcast_S_S12x4 (constant S_ .f32 0x7FC00000#32))

/-- The picked rows added up at the node each edge leads to. -/
abbrev summed : S4x4.Idx → F .f32 :=
  Host.scatterAdd scatter_S4x4_S12x1_S12x4_1_0_0_1 (broadcastInDim S4x4 ![] bcast_S_S4x4 (constant S_ .f32 0x00000000#32)) (column lit1) (picked x w b)

/-- The degrees: the adjacency's rows added up, spread over the matrix. -/
abbrev degrees : S1x4x4.Idx → F .f32 :=
  broadcastInDim S1x4x4 ![0, 1, 2] bcast_S1x1x4_S1x4x4_0_1_2 (broadcastInDim S1x1x4 ![1, 2] bcast_S1x4_S1x1x4_1_2 (Host.reduceAdd ((fun i => FloatOps.ofBits .f32 (lit0 (S1x4x4.rowMajor i)))) (constant S_ .f32 0x00000000#32) reducesTo_S1x4x4_S1x4_d2 h_S_))

/-- What the reference computes of its arguments. -/
def out : S1x4x4.Idx → F .f32 :=
  Host.divf (addf (broadcastInDim S1x4x4 ![1, 2] bcast_S4x4_S1x4x4_1_2 (summed x w b)) (nodes x w b)) degrees

end Terms

/-- The reference's run: its result is `out` of the arguments, which it leaves as they were. -/
theorem run_main {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v21) : S1x4x4.Idx → F .f32)
          = out (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

/-- The reference's frame: the run, its result dropped; it declares no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (run_main (F := Ideal) m ρ)

/-! ## The result at one entry -/

/-- The node each edge leads to. -/
def head (e : Fin 12) : Fin 4 := ![0, 0, 0, 1, 1, 2, 2, 2, 3, 3, 3, 3] e

/-- The node each edge comes from. -/
def tail (e : Fin 12) : Fin 4 := ![0, 2, 3, 1, 3, 0, 2, 3, 0, 1, 2, 3] e

/-- The edges that lead to each node. -/
def edges (i : Fin 4) : Finset (Fin 12) := Finset.univ.filter fun e => head e = i

/-- Every gathered index lies inside the table. -/
theorem inside_at : ∀ (e : Fin 12) (q : Fin 4), inside (atE e q) = 1#1 := by decide +kernel

/-- The gather reads, for the edge `e` and the feature `q`, the table's row `tail e`. -/
theorem gather_at : ∀ (e : Fin 12) (q : Fin 4),
    gather_S4x4_S12x1_S12x4_1_0_n_n_0_1_14.operandIdx (atE e q) (column lit2) = at2 (tail e) q := by decide +kernel

/-- The updates that the scatter lands on an entry are those of the edges leading to its row. -/
theorem scatter_at : ∀ (i q : Fin 4),
    (Finset.univ.filter fun j => scatter_S4x4_S12x1_S12x4_1_0_0_1.resultIdx? j (column lit1) = some (at2 i q))
      = (edges i).image fun e => atE e q := by decide +kernel

/-- The place of the entry `p` of the one row of degrees. -/
def atD (p : Fin 4) : S1x4.Idx := fun a => match a with | 0 => ⟨0, by decide⟩ | 1 => p

/-- The sum for a node's degree runs over the adjacency's four entries in its row. -/
theorem row_at : ∀ (i : Fin 4),
    (Finset.univ.filter fun j : S1x4x4.Idx => reducesTo_S1x4x4_S1x4_d2.drop j = atD i)
      = Finset.univ.image fun k => at3 i k := by decide +kernel

/-- The product reads the node's own row of the left factor. -/
theorem lhs_at : ∀ (n f k : Fin 4),
    dot_S1x4x4_S4x4_S1x4x4_2_0_01_1_n_n.lhsIdx (at3 n f) ((contrEquiv1 dot_S1x4x4_S4x4_S1x4x4_2_0_01_1_n_n 4 rfl rfl).symm k)
      = at3 n k := by decide +kernel

/-- The product reads the feature's own column of the right factor. -/
theorem rhs_at : ∀ (n f k : Fin 4),
    dot_S1x4x4_S4x4_S1x4x4_2_0_01_1_n_n.rhsIdx (at3 n f) ((contrEquiv1 dot_S1x4x4_S4x4_S1x4x4_2_0_01_1_n_n 4 rfl rfl).symm k)
      = at2 k f := by decide +kernel

section Ideal

variable (x : S1x4x4.Idx → EReal) (w : S4x4.Idx → EReal) (b : S4.Idx → EReal)

/-- The dense layer at node `n`, feature `f`: the four products added up, then the bias. -/
def node (n f : Fin 4) : EReal := (∑ k : Fin 4, x (at3 n k) * w (at2 f k)) + b (at1 f)

/-- The dense layer read at an entry. -/
theorem nodes_at (n f : Fin 4) : nodes (F := Ideal) x w b (at3 n f) = node x w b n f := by
  show (FloatOps.dotGeneral (F := Ideal) dot_S1x4x4_S4x4_S1x4x4_2_0_01_1_n_n none _ x _ (at3 n f) : EReal) + b _ = _
  rw [Ideal.dotGeneral_apply, ← Equiv.sum_comp (contrEquiv1 dot_S1x4x4_S4x4_S1x4x4_2_0_01_1_n_n 4 rfl rfl).symm]
  refine congrArg₂ (· + ·) (Finset.sum_congr rfl fun k _ => ?_) (congrArg b (funext fun a => by fin_cases a; rfl))
  rw [lhs_at, rhs_at]
  exact congrArg (x (at3 n k) * ·) (congrArg w (funext fun a => by fin_cases a <;> rfl))

/-- The transposed layer read at an entry. -/
theorem table_at (y : S1x4x4.Idx → EReal) (p q : Fin 4) :
    (shapeCast S4x4 (transpose S1x4x4 [0, 2, 1] y transposes_S1x4x4_S1x4x4_0_2_1) shapeCasts_S1x4x4_S4x4 : S4x4.Idx → EReal) (at2 p q)
      = y (at3 q p) := by
  revert p q
  have h : ∀ p q : Fin 4, transposes_S1x4x4_S1x4x4_0_2_1.src (Shape.reshapeEquiv shapeCasts_S1x4x4_S4x4 (at2 p q)) = at3 q p := by decide +kernel
  exact fun p q => congrArg y (h p q)

/-- The row an edge picks, read at a feature: that feature's node, at the edge's tail. -/
theorem picked_at (e : Fin 12) (q : Fin 4) : picked (F := Ideal) x w b (atE e q) = node x w b q (tail e) := by
  show (if inside (atE e q) = 1#1 then _ else _) = _
  rw [if_pos (inside_at e q)]
  show (shapeCast S4x4 _ _ : S4x4.Idx → EReal) (gather_S4x4_S12x1_S12x4_1_0_n_n_0_1_14.operandIdx (atE e q) (column lit2)) = _
  rw [gather_at, table_at, nodes_at]

/-- The picked rows added up, read at an entry. -/
theorem summed_at (i q : Fin 4) :
    summed (F := Ideal) x w b (at2 i q) = ∑ e ∈ edges i, node x w b q (tail e) := by
  show Ideal.ofBits .f32 0x00000000#32 + Finset.sum (Finset.univ.filter fun j =>
      scatter_S4x4_S12x1_S12x4_1_0_0_1.resultIdx? j (column lit1) = some (at2 i q)) (picked (F := Ideal) x w b) = _
  rw [Ideal.ofBits_zero_f32, zero_add, scatter_at, Finset.sum_image]
  · exact Finset.sum_congr rfl fun e _ => picked_at x w b e q
  · exact fun e _ e' _ h => congrFun h 0

end Ideal

/-- A node's degree, read anywhere in its column: the adjacency's row added up. -/
theorem degrees_at (p q : Fin 4) :
    degrees (F := Ideal) (at3 p q) = ∑ k : Fin 4, Ideal.ofBits .f32 (lit0 (S1x4x4.rowMajor (at3 q k))) := by
  have h : degrees (F := Ideal) (at3 p q) = (Host.reduceAdd (F := Ideal) ((fun i => FloatOps.ofBits .f32 (lit0 (S1x4x4.rowMajor i)))) (constant S_ .f32 0x00000000#32) reducesTo_S1x4x4_S1x4_d2 h_S_ : S1x4.Idx → EReal) (atD q) :=
    congrArg (Host.reduceAdd (F := Ideal) _ _ _ _) (funext fun a => by fin_cases a <;> rfl)
  rw [h]
  show Ideal.ofBits .f32 0x00000000#32 + Finset.sum (Finset.univ.filter fun j : S1x4x4.Idx =>
      reducesTo_S1x4x4_S1x4_d2.drop j = atD q) (fun i => Ideal.ofBits .f32 (lit0 (S1x4x4.rowMajor i))) = _
  rw [Ideal.ofBits_zero_f32, zero_add, row_at, Finset.sum_image]
  exact fun k _ k' _ h => congrFun h 2

/-- The reference's result at an entry: the neighbours' features, the node's own added, over the degree. -/
theorem out_at (x : S1x4x4.Idx → EReal) (w : S4x4.Idx → EReal) (b : S4.Idx → EReal) (i q : Fin 4) :
    out (F := Ideal) x w b (at3 i q)
      = Ideal.div ((∑ e ∈ edges i, node x w b q (tail e)) + node x w b i q)
          (∑ k : Fin 4, Ideal.ofBits .f32 (lit0 (S1x4x4.rowMajor (at3 q k)))) := by
  rw [← summed_at, ← nodes_at x w b i q, ← degrees_at i q]
  exact congrArg (fun z => Ideal.div (z + nodes (F := Ideal) x w b (at3 i q)) (degrees (F := Ideal) (at3 i q)))
    (congrArg (summed (F := Ideal) x w b) (funext fun a => by fin_cases a <;> rfl))

end Cert.Proof.Gcn.Ref

end
-- ==== Proof.Equation.lean ====
/-
  The kernel's result and the reference's are equal as exact values: entry by entry, the same sum in another order, times
  the reciprocal of the degree on one side and over the degree on the other.
-/
module

public import proofs.«01_k».proof.Proof.Frames
public import proofs.«01_k».proof.Proof.Reference

@[expose] public section

noncomputable section

namespace Cert.Proof.Gcn

open Cert.KernelIdeal Cert.KernelIdeal.Gen

open Idealize.ShloMosaic Idealize.SL.Sem
open Ref (at1 at2 at3 node edges tail)

/-- The degree of each node. -/
def degree : Fin 4 → ℝ := ![3, 2, 3, 4]

/-- The word of one. -/
theorem ofBits_one : Ideal.ofBits .f32 0x3F800000#32 = ((1 : ℝ) : EReal) := by
  simp [Ideal.ofBits, Ideal.ieee, -EReal.coe_mul]; norm_num

/-- The word of a half. -/
theorem ofBits_half : Ideal.ofBits .f32 0x3F000000#32 = ((1 / 2 : ℝ) : EReal) := by
  simp [Ideal.ofBits, Ideal.ieee, -EReal.coe_mul]; norm_num

/-- The word of a quarter. -/
theorem ofBits_quarter : Ideal.ofBits .f32 0x3E800000#32 = ((1 / 4 : ℝ) : EReal) := by
  simp [Ideal.ofBits, Ideal.ieee, -EReal.coe_mul]; norm_num

/-- The adjacency's words, row by row. -/
theorem adjacency_at : ∀ q k : Fin 4, Cert.ReferenceIdeal.lit0 (Cert.ReferenceIdeal.S1x4x4.rowMajor (at3 q k))
    = (![![0x3F800000#32, 0#32, 0x3F800000#32, 0x3F800000#32], ![0#32, 0x3F800000#32, 0#32, 0x3F800000#32],
        ![0x3F800000#32, 0#32, 0x3F800000#32, 0x3F800000#32], ![0x3F800000#32, 0x3F800000#32, 0x3F800000#32, 0x3F800000#32]]
        : Fin 4 → Fin 4 → BitVec 32) q k := by decide +kernel

/-- The adjacency's row added up is the degree. -/
theorem degree_at (q : Fin 4) :
    (∑ k : Fin 4, Ideal.ofBits .f32 (Cert.ReferenceIdeal.lit0 (Cert.ReferenceIdeal.S1x4x4.rowMajor (at3 q k)))) = ((degree q : ℝ) : EReal) := by
  simp only [adjacency_at, Fin.sum_univ_four]
  fin_cases q <;>
    simp only [Fin.zero_eta, Fin.mk_one, Fin.reduceFinMk, Matrix.cons_val, ofBits_one, Ideal.ofBits_zero_f32, degree] <;>
    norm_cast <;> norm_num

/-- The kernel's reciprocal of a degree is that degree's reciprocal. -/
theorem invDeg_eq (q : Fin 4) : invDeg (F := Ideal) q = ((1 / degree q : ℝ) : EReal) := by
  fin_cases q
  · show ((3⁻¹ : ℝ) : EReal) = ((1 / 3 : ℝ) : EReal)
    rw [one_div]
  · exact ofBits_half
  · show ((3⁻¹ : ℝ) : EReal) = ((1 / 3 : ℝ) : EReal)
    rw [one_div]
  · exact ofBits_quarter

/-- No degree is zero. -/
theorem degree_ne (q : Fin 4) : degree q ≠ 0 := by fin_cases q <;> simp [degree]

section

variable (x : S1x4x4.Idx → EReal) (w : S4x4.Idx → EReal) (b : S4.Idx → EReal)

/-- The flattened features, read at an entry's place. -/
theorem x_at (n k : Fin 4) : (shapeCast S16 x shapeCasts_S1x4x4_S16 : S16.Idx → EReal) (flat n k) = x (at3 n k) := by
  have h : ∀ n k : Fin 4, Shape.reshapeEquiv shapeCasts_S1x4x4_S16 (flat n k) = (at3 n k : S1x4x4.Idx) := by decide +kernel
  exact congrArg x (h n k)

/-- The flattened weights, read at an entry's place. -/
theorem w_at (f k : Fin 4) : (shapeCast S16 w shapeCasts_S4x4_S16 : S16.Idx → EReal) (flat f k) = w (at2 f k) := by
  have h : ∀ n k : Fin 4, Shape.reshapeEquiv shapeCasts_S4x4_S16 (flat n k) = (at2 n k : S4x4.Idx) := by decide +kernel
  exact congrArg w (h f k)

/-- The kernel's dense layer is the reference's: the bias first or last. -/
theorem nf_eq (n f : Fin 4) :
    nf (F := Ideal) (shapeCast S16 x shapeCasts_S1x4x4_S16) (shapeCast S16 w shapeCasts_S4x4_S16) b n f = node x w b n f := by
  have hb : b (vec f) = b (at1 f) := congrArg b (funext fun a => by fin_cases a; rfl)
  show b (vec f) + _ * _ + _ * _ + _ * _ + _ * _ = _
  unfold node
  rw [x_at, x_at, x_at, x_at, w_at, w_at, w_at, w_at, hb, Fin.sum_univ_four]
  ac_rfl

/-- The kernel's sum over a node's neighbours, its own entry first, is the reference's, its own entry last. -/
theorem gather_eq (i q : Fin 4) :
    gather (F := Ideal) (node x w b) q i (node x w b i q) = (∑ e ∈ edges i, node x w b q (tail e)) + node x w b i q := by
  have h0 : edges 0 = {0, 1, 2} := by decide
  have h1 : edges 1 = {3, 4} := by decide
  have h2 : edges 2 = {5, 6, 7} := by decide
  have h3 : edges 3 = {8, 9, 10, 11} := by decide
  fin_cases i
  · show node x w b 0 q + node x w b q 0 + node x w b q 2 + node x w b q 3 = (∑ e ∈ edges 0, node x w b q (tail e)) + node x w b 0 q
    rw [h0, Finset.sum_insert (by decide), Finset.sum_insert (by decide), Finset.sum_singleton]
    show _ = node x w b q 0 + (node x w b q 2 + node x w b q 3) + node x w b 0 q
    ac_rfl
  · show node x w b 1 q + node x w b q 1 + node x w b q 3 = (∑ e ∈ edges 1, node x w b q (tail e)) + node x w b 1 q
    rw [h1, Finset.sum_insert (by decide), Finset.sum_singleton]
    show _ = node x w b q 1 + node x w b q 3 + node x w b 1 q
    ac_rfl
  · show node x w b 2 q + node x w b q 0 + node x w b q 2 + node x w b q 3 = (∑ e ∈ edges 2, node x w b q (tail e)) + node x w b 2 q
    rw [h2, Finset.sum_insert (by decide), Finset.sum_insert (by decide), Finset.sum_singleton]
    show _ = node x w b q 0 + (node x w b q 2 + node x w b q 3) + node x w b 2 q
    ac_rfl
  · show node x w b 3 q + node x w b q 0 + node x w b q 1 + node x w b q 2 + node x w b q 3 = (∑ e ∈ edges 3, node x w b q (tail e)) + node x w b 3 q
    rw [h3, Finset.sum_insert (by decide), Finset.sum_insert (by decide), Finset.sum_insert (by decide), Finset.sum_singleton]
    show _ = node x w b q 0 + (node x w b q 1 + (node x w b q 2 + node x w b q 3)) + node x w b 3 q
    ac_rfl

/-- The kernel's result read at an entry. -/
theorem result_at (i q : Fin 4) :
    result (F := Ideal) x w b (at3 i q)
      = entry (F := Ideal) (shapeCast S16 x shapeCasts_S1x4x4_S16) (shapeCast S16 w shapeCasts_S4x4_S16) b i q := by
  have h : ∀ i q : Fin 4, Shape.reshapeEquiv shapeCasts_S16_S1x4x4 (at3 i q) = flat i q := by decide +kernel
  have h4 : ∀ i q : Fin 4, (4 * i.val + q.val) / 4 = i.val ∧ (4 * i.val + q.val) % 4 = q.val := by decide
  show G (F := Ideal) _ _ _ (Shape.reshapeEquiv shapeCasts_S16_S1x4x4 (at3 i q)) = _
  rw [h]
  exact congrArg₂ (entry (F := Ideal) _ _ b) (Fin.ext (h4 i q).1) (Fin.ext (h4 i q).2)

/-- Every place of the result is an entry's place. -/
theorem at3_eta (y : S1x4x4.Idx) : at3 (y 1) (y 2) = y :=
  funext fun a => by fin_cases a; exacts [Subsingleton.elim (α := Fin 1) _ _, rfl, rfl]

/-- The two results are equal at every entry. -/
theorem entry_eq (i q : Fin 4) : result (F := Ideal) x w b (at3 i q) = Ref.out (F := Ideal) x w b (at3 i q) := by
  have hn : nf (F := Ideal) (shapeCast S16 x shapeCasts_S1x4x4_S16) (shapeCast S16 w shapeCasts_S4x4_S16) b = node x w b :=
    funext fun n => funext fun f => nf_eq x w b n f
  rw [result_at, Ref.out_at, degree_at, Ideal.div_coe (degree_ne _), ← gather_eq, ← invDeg_eq]
  unfold entry
  rw [hn]
  rfl

/-- The kernel's result is the reference's. -/
theorem result_eq : result (F := Ideal) x w b = Ref.out (F := Ideal) x w b :=
  funext fun y => by
    have h := entry_eq x w b (y 1) (y 2)
    have e := at3_eta y
    exact (congrArg (result (F := Ideal) x w b) e).symm.trans (h.trans (congrArg (Ref.out (F := Ideal) x w b) e))

end

/-- The kernel and the reference agree as exact values. -/
theorem equation : Cert.algebraic_KernelIdeal_ReferenceIdeal := by
  intro m g m' g' _ h
  refine ⟨fun c => result (F := Ideal) (m (c, a0')) (m (c, a2')) (m (c, a3')), ?_, ?_⟩
  · exact (θ_run Cert.KernelIdeal.defs _ _).mono (fun _ hr => fun c => hr.1 c) (run_main (F := Ideal) m g)
  · refine (θ_run Cert.ReferenceIdeal.defs _ _).mono (fun r hr => fun c => ⟨(hr c).1.trans ?_, (hr c).2⟩) (Ref.run_main (F := Ideal) m' g')
    have h0 := (h c).1
    have h2 := (h c).2.2.1
    have h3 := (h c).2.2.2
    rw [h0, h2, h3]
    exact (result_eq _ _ _).symm

end Cert.Proof.Gcn

end
-- ==== Proof.lean ====
/-
  The proof of the five claims: the frames of the printed kernel, of the idealized kernel and of the reference, the
  named constant of the idealized kernel, and the equation between the idealized kernel and the reference.
-/
module

public import proofs.«01_k».proof.Defs
public import proofs.«01_k».proof.Proof.Equation

@[expose] public section

noncomputable section

namespace Cert.Proof

open Idealize.ShloMosaic

/-- The kernel's rounded third stands for the exact third that its idealization names. -/
theorem preserved : Cert.preserves_Kernel_KernelIdeal := IdealRules.named_const.statement _ _ _ _ _ rfl

/-- The five claims. -/
theorem claim : Cert.Claim :=
  ⟨Cert.Kernel.Gen.facts, Cert.KernelIdeal.Gen.facts, Cert.ReferenceIdeal.Gen.facts, Gcn.frame_kernel,
    Gcn.frame_kernelIdeal, Gcn.Ref.frame_reference, preserved, Gcn.equation⟩

end Cert.Proof

end
